-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_buckets_in_table [hPre_buckets_in_table : Cert.Pre_buckets_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_buckets_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_buckets_in_table [hPre_buckets_in_table : Cert.Pre_buckets_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_buckets_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_buckets_in_table [hKernelIdeal : Cert.KernelIdeal.Facts] [hPre_buckets_in_table : Cert.Pre_buckets_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_buckets_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_buckets_in_table [hReferenceIdeal : Cert.ReferenceIdeal.Facts] [hPre_buckets_in_table : Cert.Pre_buckets_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_buckets_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_buckets_in_table [hKernelIdeal : Cert.KernelIdeal.Facts] [hReferenceIdeal : Cert.ReferenceIdeal.Facts] [hPre_buckets_in_table : Cert.Pre_buckets_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_buckets_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_buckets_in_table : Cert.Pre_buckets_in_table.Facts),
    quiescent_Kernel (hKernel := hKernel)
    ∧ quiescent_KernelIdeal (hKernelIdeal := hKernelIdeal)
    ∧ quiescent_KernelIdeal_pre_buckets_in_table (hKernelIdeal := hKernelIdeal) (hPre_buckets_in_table := hPre_buckets_in_table)
    ∧ quiescent_ReferenceIdeal (hReferenceIdeal := hReferenceIdeal)
    ∧ quiescent_ReferenceIdeal_pre_buckets_in_table (hReferenceIdeal := hReferenceIdeal) (hPre_buckets_in_table := hPre_buckets_in_table)
    ∧ preserves_Kernel_KernelIdeal
    ∧ algebraic_KernelIdeal_ReferenceIdeal_pre_buckets_in_table (hKernelIdeal := hKernelIdeal) (hReferenceIdeal := hReferenceIdeal) (hPre_buckets_in_table := hPre_buckets_in_table)
-- ==== Pre_buckets_in_table.lean ====
abbrev S8192x64x2 : Shape := ⟨3, ![8192, 64, 2]⟩
abbrev S8192 : Shape := ⟨1, ![8192]⟩
abbrev S12x2 : Shape := ⟨2, ![12, 2]⟩
abbrev S256x4096 : Shape := ⟨2, ![256, 4096]⟩
abbrev S4096 : Shape := ⟨1, ![4096]⟩
abbrev S4096x2048 : Shape := ⟨2, ![4096, 2048]⟩
abbrev S2048 : Shape := ⟨1, ![2048]⟩
abbrev S_ : Shape := ⟨0, ![]⟩

class Facts : Prop where
  bcast_S_S8192x64x2 : S_.BroadcastsInDim S8192x64x2 (![] : Fin 0 → Fin S8192x64x2.rank)
  reducesTo_S8192x64x2_S_d0_1_2 : S8192x64x2.ReducesTo [0, 1, 2] S_
  h_S_ : 0 < S_.numel

variable [Facts]

def fn {F : FTy → Type} [FloatOps F] (main_arg0 : FVec F S8192x64x2 .f32) (main_arg1 : IVec S8192 32) (main_arg2 : FVec F S12x2 .f32) (main_arg3 : FVec F S12x2 .f32) (main_arg4 : FVec F S12x2 .f32) (main_arg5 : FVec F S12x2 .f32) (main_arg6 : FVec F S256x4096 .f32) (main_arg7 : FVec F S4096 .f32) (main_arg8 : FVec F S4096x2048 .f32) (main_arg9 : FVec F S2048 .f32) (main_arg10 : FVec F S256x4096 .f32) (main_arg11 : FVec F S4096 .f32) (main_arg12 : FVec F S4096x2048 .f32) (main_arg13 : FVec F S2048 .f32) : IVec S_ 1 :=
  let main_cst : FVec F S_ .f32 := constant S_ .f32 0x41200000#32
  let main_v0 : FVec F S8192x64x2 .f32 := broadcastInDim S8192x64x2 ![] bcast_S_S8192x64x2 main_cst
  let main_v1 : FVec F S8192x64x2 .f32 := mulf main_arg0 main_v0
  let main_cst_0 : FVec F S_ .f32 := constant S_ .f32 0x41300000#32
  let main_v2 : FVec F S8192x64x2 .f32 := broadcastInDim S8192x64x2 ![] bcast_S_S8192x64x2 main_cst_0
  let main_v3 : IVec S8192x64x2 1 := cmpf .olt main_v1 main_v2
  let main_c : IVec S_ 1 := constantI S_ 1 1#1
  let main_v4 : IVec S_ 1 := (fun x v => Host.reduce IntOp.andi x v reducesTo_S8192x64x2_S_d0_1_2 h_S_) main_v3 main_c
  main_v4
-- ==== Kernel.lean ====
abbrev S8192x64x2 : Shape := ⟨3, ![8192, 64, 2]⟩
abbrev S8192 : Shape := ⟨1, ![8192]⟩
abbrev S12x2 : Shape := ⟨2, ![12, 2]⟩
abbrev S256x4096 : Shape := ⟨2, ![256, 4096]⟩
abbrev S4096 : Shape := ⟨1, ![4096]⟩
abbrev S4096x2048 : Shape := ⟨2, ![4096, 2048]⟩
abbrev S2048 : Shape := ⟨1, ![2048]⟩
abbrev S8192x64x1 : Shape := ⟨3, ![8192, 64, 1]⟩
abbrev S8192x64 : Shape := ⟨2, ![8192, 64]⟩
abbrev S8192x128 : Shape := ⟨2, ![8192, 128]⟩
abbrev S8192x1 : Shape := ⟨2, ![8192, 1]⟩
abbrev S64x4x4096 : Shape := ⟨3, ![64, 4, 4096]⟩
abbrev S4x64x4096 : Shape := ⟨3, ![4, 64, 4096]⟩
abbrev S1x4096 : Shape := ⟨2, ![1, 4096]⟩
abbrev S1x2048 : Shape := ⟨2, ![1, 2048]⟩
abbrev S8192x2048 : Shape := ⟨2, ![8192, 2048]⟩
abbrev S256x128 : Shape := ⟨2, ![256, 128]⟩
abbrev S256x1 : Shape := ⟨2, ![256, 1]⟩
abbrev S4096x512 : Shape := ⟨2, ![4096, 512]⟩
abbrev S1x512 : Shape := ⟨2, ![1, 512]⟩
abbrev S256x512 : Shape := ⟨2, ![256, 512]⟩
abbrev S256x64 : Shape := ⟨2, ![256, 64]⟩
abbrev S1x1 : Shape := ⟨2, ![1, 1]⟩
abbrev S1x64x4096 : Shape := ⟨3, ![1, 64, 4096]⟩
abbrev S64x4096 : Shape := ⟨2, ![64, 4096]⟩

abbrev nBuf : Space → Nat
  | .hbm => 29
  | .vmem => 22
  | .smem => 0
  | _ => 0

abbrev bufTy : (tb : Table) → Fin (tcTables nBuf tb) → BufTy
  | .hbm, ⟨0, _⟩ => ⟨S8192x64x2, .f32⟩
  | .hbm, ⟨1, _⟩ => ⟨S8192, .i32⟩
  | .hbm, ⟨2, _⟩ => ⟨S12x2, .f32⟩
  | .hbm, ⟨3, _⟩ => ⟨S12x2, .f32⟩
  | .hbm, ⟨4, _⟩ => ⟨S12x2, .f32⟩
  | .hbm, ⟨5, _⟩ => ⟨S12x2, .f32⟩
  | .hbm, ⟨6, _⟩ => ⟨S256x4096, .f32⟩
  | .hbm, ⟨7, _⟩ => ⟨S4096, .f32⟩
  | .hbm, ⟨8, _⟩ => ⟨S4096x2048, .f32⟩
  | .hbm, ⟨9, _⟩ => ⟨S2048, .f32⟩
  | .hbm, ⟨10, _⟩ => ⟨S256x4096, .f32⟩
  | .hbm, ⟨11, _⟩ => ⟨S4096, .f32⟩
  | .hbm, ⟨12, _⟩ => ⟨S4096x2048, .f32⟩
  | .hbm, ⟨13, _⟩ => ⟨S2048, .f32⟩
  | .hbm, ⟨14, _⟩ => ⟨S8192x64x1, .f32⟩
  | .hbm, ⟨15, _⟩ => ⟨S8192x64, .f32⟩
  | .hbm, ⟨16, _⟩ => ⟨S8192x64x1, .f32⟩
  | .hbm, ⟨17, _⟩ => ⟨S8192x64, .f32⟩
  | .hbm, ⟨18, _⟩ => ⟨S8192x128, .f32⟩
  | .hbm, ⟨19, _⟩ => ⟨S8192x1, .i32⟩
  | .hbm, ⟨20, _⟩ => ⟨S64x4x4096, .f32⟩
  | .hbm, ⟨21, _⟩ => ⟨S4x64x4096, .f32⟩
  | .hbm, ⟨22, _⟩ => ⟨S64x4x4096, .f32⟩
  | .hbm, ⟨23, _⟩ => ⟨S4x64x4096, .f32⟩
  | .hbm, ⟨24, _⟩ => ⟨S1x4096, .f32⟩
  | .hbm, ⟨25, _⟩ => ⟨S1x4096, .f32⟩
  | .hbm, ⟨26, _⟩ => ⟨S1x2048, .f32⟩
  | .hbm, ⟨27, _⟩ => ⟨S1x2048, .f32⟩
  | .hbm, ⟨28, _⟩ => ⟨S8192x2048, .f32⟩
  | .local _ .vmem, ⟨0, _⟩ => ⟨S256x128, .f32⟩
  | .local _ .vmem, ⟨1, _⟩ => ⟨S256x128, .f32⟩
  | .local _ .vmem, ⟨2, _⟩ => ⟨S256x1, .i32⟩
  | .local _ .vmem, ⟨3, _⟩ => ⟨S256x1, .i32⟩
  | .local _ .vmem, ⟨4, _⟩ => ⟨S12x2, .f32⟩
  | .local _ .vmem, ⟨5, _⟩ => ⟨S12x2, .f32⟩
  | .local _ .vmem, ⟨6, _⟩ => ⟨S12x2, .f32⟩
  | .local _ .vmem, ⟨7, _⟩ => ⟨S12x2, .f32⟩
  | .local _ .vmem, ⟨8, _⟩ => ⟨S4x64x4096, .f32⟩
  | .local _ .vmem, ⟨9, _⟩ => ⟨S1x4096, .f32⟩
  | .local _ .vmem, ⟨10, _⟩ => ⟨S4096x512, .f32⟩
  | .local _ .vmem, ⟨11, _⟩ => ⟨S4096x512, .f32⟩
  | .local _ .vmem, ⟨12, _⟩ => ⟨S1x512, .f32⟩
  | .local _ .vmem, ⟨13, _⟩ => ⟨S1x512, .f32⟩
  | .local _ .vmem, ⟨14, _⟩ => ⟨S4x64x4096, .f32⟩
  | .local _ .vmem, ⟨15, _⟩ => ⟨S1x4096, .f32⟩
  | .local _ .vmem, ⟨16, _⟩ => ⟨S4096x512, .f32⟩
  | .local _ .vmem, ⟨17, _⟩ => ⟨S4096x512, .f32⟩
  | .local _ .vmem, ⟨18, _⟩ => ⟨S1x512, .f32⟩
  | .local _ .vmem, ⟨19, _⟩ => ⟨S1x512, .f32⟩
  | .local _ .vmem, ⟨20, _⟩ => ⟨S256x512, .f32⟩
  | .local _ .vmem, ⟨21, _⟩ => ⟨S256x512, .f32⟩
  | _, _ => ⟨S8192x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S12x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S12x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x64x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x64x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4096x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8192x64x2 : Shape := ⟨3, ![8192, 64, 2]⟩
abbrev S8192 : Shape := ⟨1, ![8192]⟩
abbrev S12x2 : Shape := ⟨2, ![12, 2]⟩
abbrev S256x4096 : Shape := ⟨2, ![256, 4096]⟩
abbrev S4096 : Shape := ⟨1, ![4096]⟩
abbrev S4096x2048 : Shape := ⟨2, ![4096, 2048]⟩
abbrev S2048 : Shape := ⟨1, ![2048]⟩
abbrev S_ : Shape := ⟨0, ![]⟩
abbrev S8192x64x1 : Shape := ⟨3, ![8192, 64, 1]⟩
abbrev S8192x64x1x1 : Shape := ⟨4, ![8192, 64, 1, 1]⟩
abbrev S8192x64x1x2 : Shape := ⟨4, ![8192, 64, 1, 2]⟩
abbrev S8192x64x2x2 : Shape := ⟨4, ![8192, 64, 2, 2]⟩
abbrev S8192x256 : Shape := ⟨2, ![8192, 256]⟩
abbrev S8192x4096 : Shape := ⟨2, ![8192, 4096]⟩
abbrev S1x4096 : Shape := ⟨2, ![1, 4096]⟩
abbrev S8192x2048 : Shape := ⟨2, ![8192, 2048]⟩
abbrev S1x2048 : Shape := ⟨2, ![1, 2048]⟩
abbrev S8192x1 : Shape := ⟨2, ![8192, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x64x2, .f32⟩
  | .hbm, ⟨1, _⟩ => ⟨S8192, .i32⟩
  | .hbm, ⟨2, _⟩ => ⟨S12x2, .f32⟩
  | .hbm, ⟨3, _⟩ => ⟨S12x2, .f32⟩
  | .hbm, ⟨4, _⟩ => ⟨S12x2, .f32⟩
  | .hbm, ⟨5, _⟩ => ⟨S12x2, .f32⟩
  | .hbm, ⟨6, _⟩ => ⟨S256x4096, .f32⟩
  | .hbm, ⟨7, _⟩ => ⟨S4096, .f32⟩
  | .hbm, ⟨8, _⟩ => ⟨S4096x2048, .f32⟩
  | .hbm, ⟨9, _⟩ => ⟨S2048, .f32⟩
  | .hbm, ⟨10, _⟩ => ⟨S256x4096, .f32⟩
  | .hbm, ⟨11, _⟩ => ⟨S4096, .f32⟩
  | .hbm, ⟨12, _⟩ => ⟨S4096x2048, .f32⟩
  | .hbm, ⟨13, _⟩ => ⟨S2048, .f32⟩
  | .hbm, ⟨14, _⟩ => ⟨S_, .f32⟩
  | .hbm, ⟨15, _⟩ => ⟨S8192x64x2, .f32⟩
  | .hbm, ⟨16, _⟩ => ⟨S8192x64x2, .i1⟩
  | .hbm, ⟨17, _⟩ => ⟨S_, .i32⟩
  | .hbm, ⟨18, _⟩ => ⟨S8192x64x2, .i32⟩
  | .hbm, ⟨19, _⟩ => ⟨S_, .f32⟩
  | .hbm, ⟨20, _⟩ => ⟨S8192x64x2, .f32⟩
  | .hbm, ⟨21, _⟩ => ⟨S8192x64x2, .f32⟩
  | .hbm, ⟨22, _⟩ => ⟨S8192x64x2, .f32⟩
  | .hbm, ⟨23, _⟩ => ⟨S8192x64x2, .i32⟩
  | .hbm, ⟨24, _⟩ => ⟨S_, .i32⟩
  | .hbm, ⟨25, _⟩ => ⟨S8192x64x2, .i32⟩
  | .hbm, ⟨26, _⟩ => ⟨S8192x64x2, .i32⟩
  | .hbm, ⟨27, _⟩ => ⟨S8192x64x2, .i32⟩
  | .hbm, ⟨28, _⟩ => ⟨S8192x64x1, .i32⟩
  | .hbm, ⟨29, _⟩ => ⟨S_, .i32⟩
  | .hbm, ⟨30, _⟩ => ⟨S8192x64x1, .i32⟩
  | .hbm, ⟨31, _⟩ => ⟨S8192x64x1, .i1⟩
  | .hbm, ⟨32, _⟩ => ⟨S_, .i32⟩
  | .hbm, ⟨33, _⟩ => ⟨S8192x64x1, .i32⟩
  | .hbm, ⟨34, _⟩ => ⟨S8192x64x1, .i32⟩
  | .hbm, ⟨35, _⟩ => ⟨S8192x64x1, .i32⟩
  | .hbm, ⟨36, _⟩ => ⟨S8192x64x1x1, .i32⟩
  | .hbm, ⟨37, _⟩ => ⟨S8192x64x1x2, .f32⟩
  | .hbm, ⟨38, _⟩ => ⟨S8192x64x1, .i32⟩
  | .hbm, ⟨39, _⟩ => ⟨S_, .i32⟩
  | .hbm, ⟨40, _⟩ => ⟨S8192x64x1, .i32⟩
  | .hbm, ⟨41, _⟩ => ⟨S8192x64x1, .i1⟩
  | .hbm, ⟨42, _⟩ => ⟨S_, .i32⟩
  | .hbm, ⟨43, _⟩ => ⟨S8192x64x1, .i32⟩
  | .hbm, ⟨44, _⟩ => ⟨S8192x64x1, .i32⟩
  | .hbm, ⟨45, _⟩ => ⟨S8192x64x1, .i32⟩
  | .hbm, ⟨46, _⟩ => ⟨S8192x64x1x1, .i32⟩
  | .hbm, ⟨47, _⟩ => ⟨S8192x64x1x2, .f32⟩
  | .hbm, ⟨48, _⟩ => ⟨S8192x64x2x2, .f32⟩
  | .hbm, ⟨49, _⟩ => ⟨S8192x256, .f32⟩
  | .hbm, ⟨50, _⟩ => ⟨S8192x4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x64x1, .i32⟩
  | .hbm, ⟨62, _⟩ => ⟨S_, .i32⟩
  | .hbm, ⟨63, _⟩ => ⟨S8192x64x1, .i32⟩
  | .hbm, ⟨64, _⟩ => ⟨S8192x64x1, .i1⟩
  | .hbm, ⟨65, _⟩ => ⟨S_, .i32⟩
  | .hbm, ⟨66, _⟩ => ⟨S8192x64x1, .i32⟩
  | .hbm, ⟨67, _⟩ => ⟨S8192x64x1, .i32⟩
  | .hbm, ⟨68, _⟩ => ⟨S8192x64x1, .i32⟩
  | .hbm, ⟨69, _⟩ => ⟨S8192x64x1x1, .i32⟩
  | .hbm, ⟨70, _⟩ => ⟨S8192x64x1x2, .f32⟩
  | .hbm, ⟨71, _⟩ => ⟨S8192x64x1, .i32⟩
  | .hbm, ⟨72, _⟩ => ⟨S_, .i32⟩
  | .hbm, ⟨73, _⟩ => ⟨S8192x64x1, .i32⟩
  | .hbm, ⟨74, _⟩ => ⟨S8192x64x1, .i1⟩
  | .hbm, ⟨75, _⟩ => ⟨S_, .i32⟩
  | .hbm, ⟨76, _⟩ => ⟨S8192x64x1, .i32⟩
  | .hbm, ⟨77, _⟩ => ⟨S8192x64x1, .i32⟩
  | .hbm, ⟨78, _⟩ => ⟨S8192x64x1, .i32⟩
  | .hbm, ⟨79, _⟩ => ⟨S8192x64x1x1, .i32⟩
  | .hbm, ⟨80, _⟩ => ⟨S8192x64x1x2, .f32⟩
  | .hbm, ⟨81, _⟩ => ⟨S8192x64x2x2, .f32⟩
  | .hbm, ⟨82, _⟩ => ⟨S8192x256, .f32⟩
  | .hbm, ⟨83, _⟩ => ⟨S8192x4096, .f32⟩
  | .hbm, ⟨84, _⟩ => ⟨S1x4096, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S8192x2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S_, .i32⟩
  | .hbm, ⟨95, _⟩ => ⟨S8192, .i32⟩
  | .hbm, ⟨96, _⟩ => ⟨S8192, .i1⟩
  | .hbm, ⟨97, _⟩ => ⟨S8192x1, .i1⟩
  | .hbm, ⟨98, _⟩ => ⟨S8192x2048, .i1⟩
  | .hbm, ⟨99, _⟩ => ⟨S8192x2048, .f32⟩
  | _, _ => ⟨S8192x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_v0 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.Bucket.lean ====
/- The number a fraction is looked up under, and the row of a twelve-row table it selects. Extended reals only; no program. -/
module

public import Idealize.ShloMosaic.Lib.ValueIdx
public import Idealize.ShloMosaic.PureOps.Ideal
public import Idealize.ShloMosaic.PureOps.Ideal.Laws

@[expose] public section

noncomputable section

namespace Cert.Bucket

open Idealize.ShloMosaic Idealize.ShloMosaic.ValueIdx

/-- The bucket of a fraction `s`: 0 below 1e-8, else `floor (10 s) + 1`, as a 32-bit word. -/
def bucket (s : EReal) : BitVec 32 :=
  Scalar.select (Ideal.cmp .olt s (Ideal.ofBits .f32 0x322BCC77#32)) 0#32
    (IntOp.addi (Ideal.fptosi 32 (Ideal.liftRound Int.floor (s * Ideal.ofBits .f32 0x41200000#32))) 1#32)

/-- The word 0x41200000 is ten. -/
theorem ten : Ideal.ofBits .f32 0x41200000#32 = ((10 : ℝ) : EReal) := by
  simp [Ideal.ofBits, Ideal.ieee]
  rw [← EReal.coe_mul]; norm_num

/-- The word 0x41300000 is eleven. -/
theorem eleven : Ideal.ofBits .f32 0x41300000#32 = ((11 : ℝ) : EReal) := by
  simp [Ideal.ofBits, Ideal.ieee]
  rw [← EReal.coe_mul]; norm_num

/-- The word 0x322BCC77 is a nonnegative real. -/
theorem tiny : ∃ e : ℝ, 0 ≤ e ∧ Ideal.ofBits .f32 0x322BCC77#32 = (e : EReal) := by
  refine ⟨_, ?_, by simp [Ideal.ofBits, Ideal.ieee]; rfl⟩
  positivity

/-- A comparison of extended reals whose word is 1 holds. -/
theorem lt_of_cmp {x y : EReal} (h : Ideal.cmp .olt x y = 1#1) : x < y := by
  by_contra hn
  simp [Ideal.cmp, hn] at h

/-- A fraction with `10 s < 11` has one of the twelve buckets 0 … 11. -/
theorem bucket_lt {s : EReal} (h : s * Ideal.ofBits .f32 0x41200000#32 < Ideal.ofBits .f32 0x41300000#32) :
    (bucket s).toNat < 12 := by
  obtain ⟨e, he, hE⟩ := tiny
  rw [ten, eleven] at h
  unfold bucket
  rw [hE, ten]
  induction s with
  | bot => simp [Ideal.cmp, Scalar.select]
  | top => rw [EReal.top_mul_coe_of_pos (by norm_num)] at h; exact absurd h (by simp)
  | coe r =>
    rw [← EReal.coe_mul, EReal.coe_lt_coe_iff] at h
    by_cases hr : r < e
    · simp [Ideal.cmp, Scalar.select, hr]
    · have h0 : 0 ≤ r * 10 := by nlinarith [not_lt.mp hr]
      have hf0 : 0 ≤ ⌊r * 10⌋ := Int.floor_nonneg.mpr h0
      have hf1 : ⌊r * 10⌋ ≤ 10 := Int.lt_add_one_iff.mp (Int.floor_lt.mpr (by push_cast; linarith))
      have hF : Ideal.fptosi 32 (Ideal.liftRound Int.floor (((r : ℝ) : EReal) * ((10 : ℝ) : EReal))) = BitVec.ofInt 32 ⌊r * 10⌋ := by
        rw [← EReal.coe_mul]
        show BitVec.ofInt 32 (Ideal.toIntClamped _ _ (((⌊r * 10⌋ : ℤ) : ℝ) : EReal)) = _
        congr 1
        show max _ (min _ (if (0 : ℝ) ≤ ((⌊r * 10⌋ : ℤ) : ℝ) then ⌊((⌊r * 10⌋ : ℤ) : ℝ)⌋ else ⌈((⌊r * 10⌋ : ℤ) : ℝ)⌉)) = _
        rw [Int.floor_intCast, Int.ceil_intCast, ite_self]
        norm_num
        omega
      rw [hF]
      have hc : Ideal.cmp .olt ((r : ℝ) : EReal) (e : EReal) = 0#1 := by simp [Ideal.cmp, hr]
      rw [hc]
      generalize ⌊r * 10⌋ = z at hf0 hf1
      interval_cases z <;> decide

/-- Entry `(k, d)` of a table of twelve pairs, zero outside the table. -/
def entry (T : (⟨2, ![12, 2]⟩ : Shape).Idx → EReal) (k d : ℕ) : EReal :=
  if h : k < 12 ∧ d < 2 then T (ix2 ⟨k, h.1⟩ ⟨d, h.2⟩) else 0

/-- Twelve terms added from zero, each a table entry where the bucket is its row and zero elsewhere, add to the entry
    of the bucket's own row. -/
theorem chain_eq (f : ℕ → EReal) (hf : ∀ k, 12 ≤ k → f k = 0) (q : BitVec 32) :
    0 + (if q = 0#32 then f 0 else 0) + (if q = 1#32 then f 1 else 0) + (if q = 2#32 then f 2 else 0)
      + (if q = 3#32 then f 3 else 0) + (if q = 4#32 then f 4 else 0) + (if q = 5#32 then f 5 else 0)
      + (if q = 6#32 then f 6 else 0) + (if q = 7#32 then f 7 else 0) + (if q = 8#32 then f 8 else 0)
      + (if q = 9#32 then f 9 else 0) + (if q = 10#32 then f 10 else 0) + (if q = 11#32 then f 11 else 0) = f q.toNat := by
  by_cases h : q.toNat < 12
  · obtain ⟨n, hn⟩ : ∃ n, q.toNat = n := ⟨_, rfl⟩
    have hq : q = BitVec.ofNat 32 n := by rw [← hn, BitVec.ofNat_toNat, BitVec.setWidth_eq]
    rw [hn] at h ⊢
    subst hq
    clear hn
    interval_cases n <;> simp
  · have hne : ∀ k : ℕ, k < 12 → q ≠ BitVec.ofNat 32 k := by
      rintro k hk rfl
      rw [BitVec.toNat_ofNat] at h
      exact h (lt_of_le_of_lt (Nat.mod_le _ _) hk)
    rw [hf _ (not_lt.mp h)]
    simp [hne 0, hne 1, hne 2, hne 3, hne 4, hne 5, hne 6, hne 7, hne 8, hne 9, hne 10, hne 11]

end Cert.Bucket

end
-- ==== Proof.Parts.lean ====
/- What the kernel body's computed values are at one index: the embedding chains, the first layer's four products, the
   second layer's product. -/
module

public import proofs.«01_k».proof.Proof.Gen.KernelIdeal.Frame
public import proofs.«01_k».proof.Proof.Bucket
public import Idealize.ShloMosaic.Lib.MatmulPlain
public import Idealize.ShloMosaic.Lib.Pipeline.Value

@[expose] public section

set_option maxRecDepth 16384

noncomputable section

namespace Cert.KernelIdeal.Parts

open Cert.KernelIdeal Cert.KernelIdeal.Gen Cert.Bucket Idealize.ShloMosaic Idealize.ShloMosaic.ValueIdx
open scoped BigOperators

/-- The kernel's bucket computation at an index is the bucket of the fraction there. -/
theorem quantize_apply (x : FVec Ideal S256x64 .f32) (i : S256x64.Idx) :
    select (cmpf .olt x (broadcast S256x64 (Scalar.ofBits (F := Ideal) .f32 0x322BCC77#32))) (broadcast S256x64 0#32)
      (addi (fptosi 32 (floor (mulf x (broadcast S256x64 (Scalar.ofBits (F := Ideal) .f32 0x41200000#32))))) (broadcast S256x64 1#32)) i
    = bucket (x i) := rfl

/-- One step of an embedding chain at an index: the table's entry `(k, d)` is added where the bucket is `k`. -/
theorem step_apply (acc : FVec Ideal S256x64 .f32) (q : IVec S256x64 32) (T : Vec Ideal S12x2 .f32) (k d : ℕ)
    (h : S12x2.Slices ![k, d] S1x1) (h' : ∀ a, (![0, 0] : Fin S1x1.rank → ℕ) a < S1x1.size a) (i : S256x64.Idx) :
    addf acc (select (cmpi .eq q (broadcast S256x64 (BitVec.ofNat 32 k)))
      (broadcast S256x64 (extractAt ![0, 0] (extractStridedSlice S1x1 ![k, d] T h) h'))
      (broadcast S256x64 (Scalar.ofBits (F := Ideal) .f32 0x00000000#32))) i
    = acc i + (if q i = BitVec.ofNat 32 k then entry T k d else 0) := by
  have hk : k < 12 := by have := h.2 0; simpa using this
  have hd : d < 2 := by have := h.2 1; simpa using this
  have hT : extractAt ![0, 0] (extractStridedSlice S1x1 ![k, d] T h) h' = entry T k d := by
    unfold entry
    rw [dif_pos ⟨hk, hd⟩]
    show T _ = T _
    congr 1
    funext a
    match a with
    | ⟨0, _⟩ => rfl
    | ⟨1, _⟩ => rfl
  rw [addf_apply, hT]
  congr 1
  show Scalar.select (IntOp.cmpi .eq (q i) (BitVec.ofNat 32 k)) (entry T k d) (Ideal.ofBits .f32 0x00000000#32) = _
  rw [Ideal.ofBits_zero_f32]
  by_cases e : q i = BitVec.ofNat 32 k
  · rw [if_pos e, e]; simp [IntOp.cmpi, Scalar.select]
  · rw [if_neg e, show IntOp.cmpi .eq (q i) (BitVec.ofNat 32 k) = 0#1 by
      show BitVec.ofBool (q i == BitVec.ofNat 32 k) = 0#1
      rw [beq_eq_false_iff_ne.mpr e]; rfl]
    exact select_zero _ _

/-- The zero array a chain starts from. -/
theorem zero_apply (i : S256x64.Idx) : broadcast S256x64 (Scalar.ofBits (F := Ideal) .f32 0x00000000#32) i = (0 : EReal) :=
  Ideal.ofBits_zero_f32

/-- A table has no entries past its twelve rows. -/
theorem entry_out (T : Vec Ideal S12x2 .f32) (d : ℕ) : ∀ k, 12 ≤ k → entry T k d = 0 :=
  fun k hk => dif_neg fun h => absurd h.1 (not_lt.mpr hk)

variable (T : Vec Ideal S12x2 .f32) (q : IVec S256x64 32) (i : S256x64.Idx)

/-- The zero word read as an element. -/
abbrev z0 : Ideal .f32 := Scalar.ofBits .f32 0x00000000#32

/-- First expert, first bucket, dimension 0: the chain is the table's entry at the bucket's row. -/
theorem c_e0 : k0_pay17 (k0_pay13 T q (k0_pay9 T q) (k0_pay10 q) (k0_pay11 T) (k0_pay12 (F := Ideal))) (k0_pay14 q) (k0_pay15 T)
    (k0_pay16 (F := Ideal)) i = entry T (q i).toNat 0 := by
  simp only [k0_pay9, k0_pay10, k0_pay11, k0_pay12, k0_pay13, k0_pay14, k0_pay15, k0_pay16, k0_pay17, step_apply, zero_apply]
  exact chain_eq (entry T · 0) (entry_out T 0) (q i)

/-- First expert, first bucket, dimension 1. -/
theorem c_e1 : k0_pay24 (k0_pay21 T q (k0_pay18 T q) (k0_pay19 q) (k0_pay20 T) z0) (k0_pay22 q) (k0_pay23 T) z0 i
    = entry T (q i).toNat 1 := by
  simp only [k0_pay18, k0_pay19, k0_pay20, k0_pay21, k0_pay22, k0_pay23, k0_pay24, step_apply, zero_apply]
  exact chain_eq (entry T · 1) (entry_out T 1) (q i)

/-- First expert, second bucket, dimension 0. -/
theorem c_t0 : k0_pay31 (k0_pay28 T q (k0_pay25 T q) (k0_pay26 q) (k0_pay27 T)) (k0_pay29 q) (k0_pay30 T) i
    = entry T (q i).toNat 0 := by
  simp only [k0_pay25, k0_pay26, k0_pay27, k0_pay28, k0_pay29, k0_pay30, k0_pay31, step_apply, zero_apply]
  exact chain_eq (entry T · 0) (entry_out T 0) (q i)

/-- The last step of the first expert's second-bucket, dimension-1 chain. -/
def lastC (acc : FVec Ideal S256x64 .f32) (q : IVec S256x64 32) (eleven : IVec S256x64 32) (T : Vec Ideal S12x2 .f32) : FVec Ideal S256x64 .f32 :=
  addf acc (select (cmpi .eq q eleven) (broadcast S256x64 (extractAt ![0, 0] (extractStridedSlice S1x1 ![11, 1] T slices_S12x2_o11_1_S1x1) inpos_S1x1_p0_0))
    (broadcast S256x64 z0))

/-- First expert, second bucket, dimension 1. -/
theorem c_t1 : lastC (k0_pay34 T q (k0_pay32 T q) k0_pay33) q k0_pay35 T i = entry T (q i).toNat 1 := by
  simp only [k0_pay32, k0_pay33, k0_pay34, k0_pay35, lastC, step_apply, zero_apply]
  exact chain_eq (entry T · 1) (entry_out T 1) (q i)

/-- Second expert, first bucket, dimension 0 (the bucket computed inside the chain's first value). -/
theorem l_e0 (v w : FVec Ideal S256x64 .f32) : k0_pay47 T (k0_pay41 v w) (k0_pay45 T (k0_pay41 v w) (k0_pay43 v T w) k0_pay44) k0_pay46 i
    = entry T (k0_pay41 v w i).toNat 0 := by
  simp only [k0_pay43, k0_pay44, k0_pay45, k0_pay46, k0_pay47, step_apply, zero_apply]
  exact chain_eq (entry T · 0) (entry_out T 0) (k0_pay41 v w i)

/-- Second expert, first bucket, dimension 1. -/
theorem l_e1 : k0_pay50 T q (k0_pay49 T q (k0_pay48 T q)) i = entry T (q i).toNat 1 := by
  simp only [k0_pay48, k0_pay49, k0_pay50, step_apply, zero_apply]
  exact chain_eq (entry T · 1) (entry_out T 1) (q i)

/-- Second expert, second bucket, dimension 0. -/
theorem l_t0 : k0_pay59 T q (k0_pay55 T q (k0_pay51 T q) (k0_pay52 q) (k0_pay53 T) (k0_pay54 (F := Ideal))) (k0_pay56 q) (k0_pay57 T)
    (k0_pay58 (F := Ideal)) i = entry T (q i).toNat 0 := by
  simp only [k0_pay51, k0_pay52, k0_pay53, k0_pay54, k0_pay55, k0_pay56, k0_pay57, k0_pay58, k0_pay59, step_apply, zero_apply]
  exact chain_eq (entry T · 0) (entry_out T 0) (q i)

/-- One step of the second expert's second-bucket, dimension-1 chain, at row `k`. -/
def stepL (acc : FVec Ideal S256x64 .f32) (q : IVec S256x64 32) (T : Vec Ideal S12x2 .f32) (k : ℕ) (h : S12x2.Slices ![k, 1] S1x1) :
    FVec Ideal S256x64 .f32 :=
  addf acc (select (cmpi .eq q (broadcast S256x64 (BitVec.ofNat 32 k)))
    (broadcast S256x64 (extractAt ![0, 0] (extractStridedSlice S1x1 ![k, 1] T h) inpos_S1x1_p0_0)) (broadcast S256x64 z0))

/-- The last four steps of that chain, the first of them with its comparison and its entry given. -/
def lastL (acc : FVec Ideal S256x64 .f32) (q : IVec S256x64 32) (hit : IVec S256x64 1) (x z : Ideal .f32) (T : Vec Ideal S12x2 .f32) :
    FVec Ideal S256x64 .f32 :=
  stepL (stepL (stepL (addf acc (select hit (broadcast S256x64 x) (broadcast S256x64 z))) q T 9 slices_S12x2_o9_1_S1x1)
    q T 10 slices_S12x2_o10_1_S1x1) q T 11 slices_S12x2_o11_1_S1x1

/-- Second expert, second bucket, dimension 1. -/
theorem l_t1 : lastL (k0_pay63 T q (k0_pay60 T q) (k0_pay61 q) (k0_pay62 T) z0) q (k0_pay64 q) (k0_pay65 T) z0 T i
    = entry T (q i).toNat 1 := by
  simp only [k0_pay60, k0_pay61, k0_pay62, k0_pay63, k0_pay64, k0_pay65, lastL, stepL, step_apply, zero_apply]
  exact chain_eq (entry T · 1) (entry_out T 1) (q i)

/-- Part `p` of the first layer's weights as a matrix. -/
def part (W : FVec Ideal S4x64x4096 .f32) (p : ℕ) (h : S4x64x4096.Slices ![p, 0, 0] S1x64x4096) : FVec Ideal S64x4096 .f32 :=
  shapeCast S64x4096 (extractStridedSlice S1x64x4096 ![p, 0, 0] W h) shapeCasts_S1x64x4096_S64x4096

/-- A part of the weights at an index. -/
theorem part_apply (W : FVec Ideal S4x64x4096 .f32) (p : ℕ) (hp : p < 4) (h : S4x64x4096.Slices ![p, 0, 0] S1x64x4096) (l : Fin 64)
    (n : Fin 4096) : part W p h (ix2 l n) = W (ix3 (⟨p, hp⟩ : Fin 4) l n) := by
  unfold part
  refine (shapeCast_apply _ shapeCasts_S1x64x4096_S64x4096 (ix2 l n) (ix3 (0 : Fin 1) l n) ?_).trans ?_
  · rw [Shape.rowMajor_val_three, Shape.rowMajor_val_two]
    show ((0 : ℕ) * 64 + l.val) * 4096 + n.val = l.val * 4096 + n.val
    omega
  · refine extractStridedSlice_apply _ W h _ (ix3 (⟨p, hp⟩ : Fin 4) l n) fun a => ?_
    match a with
    | ⟨0, _⟩ => rfl
    | ⟨1, _⟩ => show l.val = 0 + l.val; omega
    | ⟨2, _⟩ => show n.val = 0 + n.val; omega

/-- The product of one embedding array with one part of the weights. -/
def dotPart (e : FVec Ideal S256x64 .f32) (W : FVec Ideal S64x4096 .f32) : FVec Ideal S256x4096 .f32 :=
  matmul dot_S256x64_S64x4096_S256x4096_1_0_0_1_n_n none e W (constant S256x4096 .f32 0x00000000#32)

/-- That product at an index is the sum over the 64 positions. -/
theorem dotPart_apply (e : FVec Ideal S256x64 .f32) (W : FVec Ideal S64x4096 .f32) (r : Fin 256) (n : Fin 4096) :
    dotPart e W (ix2 r n) = ∑ l : Fin 64, e (ix2 r l) * W (ix2 l n) := by
  refine (Ideal.matmul_plain_apply none e W _ r n).trans ?_
  rw [constant_apply, Ideal.ofBits_zero_f32, zero_add]

/-- The two layers of an expert on a block, before the second bias: four products and a bias, the positive part, and
    the product with the second weights. -/
def layers (e0 e1 t0 t1 : FVec Ideal S256x64 .f32) (W : FVec Ideal S4x64x4096 .f32) (b : FVec Ideal S1x4096 .f32)
    (W2 : FVec Ideal S4096x512 .f32) : FVec Ideal S256x512 .f32 :=
  matmul dot_S256x4096_S4096x512_S256x512_1_0_0_1_n_n none
    (maximumf (addf (addf (addf (addf (dotPart e0 (part W 0 slices_S4x64x4096_o0_0_0_S1x64x4096))
        (dotPart e1 (part W 1 slices_S4x64x4096_o1_0_0_S1x64x4096)))
        (dotPart t0 (part W 2 slices_S4x64x4096_o2_0_0_S1x64x4096)))
        (dotPart t1 (part W 3 slices_S4x64x4096_o3_0_0_S1x64x4096)))
      (broadcastTo S256x4096 b broadcasts_S1x4096_S256x4096)) (broadcast S256x4096 z0))
    W2 (constant S256x512 .f32 0x00000000#32)

/-- The two layers at an index. -/
theorem layers_apply (e0 e1 t0 t1 : FVec Ideal S256x64 .f32) (W : FVec Ideal S4x64x4096 .f32) (b : FVec Ideal S1x4096 .f32)
    (W2 : FVec Ideal S4096x512 .f32) (r : Fin 256) (j : Fin 512) :
    layers e0 e1 t0 t1 W b W2 (ix2 r j) = ∑ n : Fin 4096,
      max ((∑ l : Fin 64, e0 (ix2 r l) * W (ix3 (0 : Fin 4) l n)) + (∑ l : Fin 64, e1 (ix2 r l) * W (ix3 (1 : Fin 4) l n))
        + (∑ l : Fin 64, t0 (ix2 r l) * W (ix3 (2 : Fin 4) l n)) + (∑ l : Fin 64, t1 (ix2 r l) * W (ix3 (3 : Fin 4) l n))
        + b (ix2 (0 : Fin 1) n)) 0 * W2 (ix2 n j) := by
  refine (Ideal.matmul_plain_apply none _ W2 _ r j).trans ?_
  rw [constant_apply, Ideal.ofBits_zero_f32, zero_add]
  refine Finset.sum_congr rfl fun n _ => ?_
  congr 1
  rw [maximumf_apply, addf_apply, addf_apply, addf_apply, addf_apply, dotPart_apply, dotPart_apply, dotPart_apply, dotPart_apply,
    broadcast_apply, show z0 = (0 : EReal) from Ideal.ofBits_zero_f32,
    broadcastTo_apply b broadcasts_S1x4096_S256x4096 (ix2 r n) (ix2 (0 : Fin 1) n) (fun a => by
      match a with
      | ⟨0, _⟩ => rfl
      | ⟨1, _⟩ => rfl)]
  simp only [part_apply W 0 (by decide), part_apply W 1 (by decide), part_apply W 2 (by decide), part_apply W 3 (by decide)]
  rfl

/-- The first expert's printed value is its two layers plus the second bias. -/
theorem pay36_eq (T : Vec Ideal S12x2 .f32) (W : FVec Ideal S4x64x4096 .f32) (b : FVec Ideal S1x4096 .f32) (W2 : FVec Ideal S4096x512 .f32)
    (b2 : FVec Ideal S1x512 .f32) (q : IVec S256x64 32) (e0 e1 t0 acc : FVec Ideal S256x64 .f32) (eleven : IVec S256x64 32) :
    k0_pay36 T W b W2 b2 q e0 e1 t0 acc eleven
      = addf (layers e0 e1 t0 (lastC acc q eleven T) W b W2) (broadcastTo S256x512 b2 broadcasts_S1x512_S256x512) := rfl

/-- The second expert's printed value is its two layers. -/
theorem pay66_eq (T : Vec Ideal S12x2 .f32) (W : FVec Ideal S4x64x4096 .f32) (b : FVec Ideal S1x4096 .f32) (W2 : FVec Ideal S4096x512 .f32)
    (q : IVec S256x64 32) (e0 e1 t0 acc : FVec Ideal S256x64 .f32) (hit : IVec S256x64 1) (x z : Ideal .f32) :
    k0_pay66 T W b W2 q e0 e1 t0 acc hit x z = layers e0 e1 t0 (lastL acc q hit x z T) W b W2 := rfl

end Cert.KernelIdeal.Parts

end
-- ==== Proof.Block.lean ====
/- What the kernel body leaves in its output block, from the blocks it reads, at one index. -/
module

public import proofs.«01_k».proof.Proof.Parts

@[expose] public section

set_option maxRecDepth 16384

noncomputable section

namespace Cert.KernelIdeal.Block

open Cert.KernelIdeal Cert.KernelIdeal.Gen Cert.KernelIdeal.Parts Cert.Bucket Idealize.ShloMosaic Idealize.ShloMosaic.ValueIdx
open Idealize.ShloMosaic.Pipeline (Dat)
open scoped BigOperators

/-- One expert on one row: the first layer from the entries the two buckets of each position select, its positive part,
    the second layer. -/
def expert (q0 q1 : Fin 64 → BitVec 32) (T0 T1 : Vec Ideal S12x2 .f32) (W : FVec Ideal S4x64x4096 .f32) (b : FVec Ideal S1x4096 .f32)
    (W2 : FVec Ideal S4096x512 .f32) (b2 : FVec Ideal S1x512 .f32) (j : Fin 512) : EReal :=
  (∑ n : Fin 4096, max ((∑ l : Fin 64, entry T0 (q0 l).toNat 0 * W (ix3 (0 : Fin 4) l n))
      + (∑ l : Fin 64, entry T0 (q0 l).toNat 1 * W (ix3 (1 : Fin 4) l n))
      + (∑ l : Fin 64, entry T1 (q1 l).toNat 0 * W (ix3 (2 : Fin 4) l n))
      + (∑ l : Fin 64, entry T1 (q1 l).toNat 1 * W (ix3 (3 : Fin 4) l n)) + b (ix2 (0 : Fin 1) n)) 0 * W2 (ix2 n j))
    + b2 (ix2 (0 : Fin 1) j)

/-- A bias row spread over the block, at an index. -/
theorem bias_apply (b : FVec Ideal S1x512 .f32) (r : Fin 256) (j : Fin 512) :
    broadcastTo S256x512 b broadcasts_S1x512_S256x512 (ix2 r j) = b (ix2 (0 : Fin 1) j) :=
  broadcastTo_apply b broadcasts_S1x512_S256x512 (ix2 r j) (ix2 (0 : Fin 1) j) fun a => by
    match a with
    | ⟨0, _⟩ => rfl
    | ⟨1, _⟩ => rfl

/-- The last payload at an index: the second expert where the selector is positive, else the first. -/
theorem pay1_apply (y : FVec Ideal S256x512 .f32) (b2 : FVec Ideal S1x512 .f32) (z : FVec Ideal S256x512 .f32) (s : Vec Ideal S256x1 .i32)
    (r : Fin 256) (j : Fin 512) :
    k0_pay1 y b2 z s (ix2 r j) = Scalar.select (IntOp.cmpi .sgt (s (ix2 r (0 : Fin 1))) 0#32)
      (z (ix2 r j) + b2 (ix2 (0 : Fin 1) j)) (y (ix2 r j)) := by
  unfold k0_pay1
  simp only [shapeCast_self]
  rw [select_apply, addf_apply, bias_apply, broadcastTo_apply _ broadcasts_S256x1_S256x512 (ix2 r j) (ix2 r (0 : Fin 1)) (fun a => by
    match a with
    | ⟨0, _⟩ => rfl
    | ⟨1, _⟩ => rfl)]
  rfl

/-- The first half of a row of the fractions' block holds the positions' first fractions. -/
def first (l : Fin 64) : Fin 128 := ⟨l.val, by omega⟩
/-- The second half of a row of the fractions' block holds the positions' second fractions. -/
def second (l : Fin 64) : Fin 128 := ⟨64 + l.val, by omega⟩

/-- Reading the first half of the fractions' block. -/
theorem ld_first (x : Vec Ideal S256x128 .f32) (r : Fin 256) (l : Fin 64) :
    (View.ld x r0_0 : Vec Ideal S256x64 .f32) (ix2 r l) = x (ix2 r (first l)) := by
  rw [show (View.ld x r0_0 : Vec Ideal S256x64 .f32) = extractStridedSlice S256x64 ![0, 0] x ⟨rfl, inb_S256x128_S256x64_0_0⟩ from View.ld_unit x _ _ _]
  refine extractStridedSlice_apply _ x _ (ix2 r l) (ix2 r (first l)) fun a => ?_
  match a with
  | ⟨0, _⟩ => show r.val = 0 + r.val; omega
  | ⟨1, _⟩ => show l.val = 0 + l.val; omega

/-- Reading the second half of the fractions' block. -/
theorem ld_second (x : Vec Ideal S256x128 .f32) (r : Fin 256) (l : Fin 64) :
    (View.ld x r0_1 : Vec Ideal S256x64 .f32) (ix2 r l) = x (ix2 r (second l)) := by
  rw [show (View.ld x r0_1 : Vec Ideal S256x64 .f32) = extractStridedSlice S256x64 ![0, 64] x ⟨rfl, inb_S256x128_S256x64_0_64⟩ from View.ld_unit x _ _ _]
  refine extractStridedSlice_apply _ x _ (ix2 r l) (ix2 r (second l)) fun a => ?_
  match a with
  | ⟨0, _⟩ => show r.val = 0 + r.val; omega
  | ⟨1, _⟩ => rfl

/-- The first buckets the body computes, at an index. -/
theorem pay7_apply (x : Vec Ideal S256x128 .f32) (r : Fin 256) (l : Fin 64) :
    k0_pay7 (View.ld x r0_0) (ix2 r l) = bucket (x (ix2 r (first l))) := by
  unfold k0_pay7 k0_pay2
  rw [shapeCast_self, ← ld_first x r l]
  exact quantize_apply _ _

/-- The second buckets the body computes, at an index. -/
theorem pay8_apply (x : Vec Ideal S256x128 .f32) (r : Fin 256) (l : Fin 64) :
    k0_pay8 (View.ld x r0_1) (ix2 r l) = bucket (x (ix2 r (second l))) := by
  unfold k0_pay8 k0_pay3
  rw [shapeCast_self, ← ld_second x r l]
  exact quantize_apply _ _

/-- The first buckets as the body computes them again for the second expert: the same value. -/
theorem pay41_eq (v : Vec Ideal S256x64 .f32) : k0_pay41 (k0_pay2 v) (k0_pay40 (F := Ideal)) = k0_pay7 v := rfl
/-- The second buckets as the body computes them again for the second expert: the same value. -/
theorem pay42_eq (v : Vec Ideal S256x64 .f32) : k0_pay42 (k0_pay3 v) = k0_pay8 v := rfl

/-- The zero offsets, however spelt. -/
theorem off2 : (![0, 0] : Fin 2 → ℕ) = fun _ => 0 := by decide
/-- The zero offsets of a rank-three array. -/
theorem off3 : (![0, 0, 0] : Fin 3 → ℕ) = fun _ => 0 := by decide

/-- Reading a table whole. -/
theorem ld_2 (x : Vec Ideal S12x2 .f32) : (View.ld x r0_2 : Vec Ideal S12x2 .f32) = x := View.ld_unit_zero off2 _ x
/-- Reading a first-layer weight whole. -/
theorem ld_3 (x : Vec Ideal S4x64x4096 .f32) : (View.ld x r0_3 : Vec Ideal S4x64x4096 .f32) = x := View.ld_unit_zero off3 _ x
/-- Reading a first-layer bias whole. -/
theorem ld_4 (x : Vec Ideal S1x4096 .f32) : (View.ld x r0_4 : Vec Ideal S1x4096 .f32) = x := View.ld_unit_zero off2 _ x
/-- Reading a second-layer weight block whole. -/
theorem ld_5 (x : Vec Ideal S4096x512 .f32) : (View.ld x r0_5 : Vec Ideal S4096x512 .f32) = x := View.ld_unit_zero off2 _ x
/-- Reading a second-layer bias block whole. -/
theorem ld_6 (x : Vec Ideal S1x512 .f32) : (View.ld x r0_6 : Vec Ideal S1x512 .f32) = x := View.ld_unit_zero off2 _ x
/-- Reading the selectors whole. -/
theorem ld_7 (x : Vec Ideal S256x1 .i32) : (View.ld x r0_7 : Vec Ideal S256x1 .i32) = x := View.ld_unit_zero off2 _ x

variable (x0 : Vec Ideal S256x128 .f32) (x1 : Vec Ideal S256x1 .i32) (x2 x3 x4 x5 : Vec Ideal S12x2 .f32)
  (x6 : Vec Ideal S4x64x4096 .f32) (x7 : Vec Ideal S1x4096 .f32) (x8 : Vec Ideal S4096x512 .f32) (x9 : Vec Ideal S1x512 .f32)
  (x10 : Vec Ideal S4x64x4096 .f32) (x11 : Vec Ideal S1x4096 .f32) (x12 : Vec Ideal S4096x512 .f32) (x13 : Vec Ideal S1x512 .f32)

/-- THE OUTPUT BLOCK at `(r, j)`: the second expert's value where the row's selector is positive, else the first's. -/
theorem out_apply (r : Fin 256) (j : Fin 512) :
    out0_14 x0 x1 x2 x3 x4 x5 x6 x7 x8 x9 x10 x11 x12 x13 (ix2 r j)
    = Scalar.select (IntOp.cmpi .sgt (x1 (ix2 r (0 : Fin 1))) 0#32)
        (expert (fun l => bucket (x0 (ix2 r (first l)))) (fun l => bucket (x0 (ix2 r (second l)))) x4 x5 x10 x11 x12 x13 j)
        (expert (fun l => bucket (x0 (ix2 r (first l)))) (fun l => bucket (x0 (ix2 r (second l)))) x2 x3 x6 x7 x8 x9 j) := by
  unfold_out out0_14
  rw [View.canon_unit_zero off2, pay36_eq, pay66_eq, pay1_apply, addf_apply, bias_apply]
  unfold k0_pay4 k0_pay5 k0_pay6 k0_pay37 k0_pay38 k0_pay39
  rw [layers_apply, layers_apply]
  simp only [c_e0, c_e1, c_t0, c_t1, l_e0, l_e1, l_t0, l_t1]
  simp only [shapeCast_self, ld_2, ld_3, ld_4, ld_5, ld_6, ld_7, pay41_eq, pay42_eq, pay7_apply, pay8_apply]
  rw [ld_5 x12, ld_5 x8, ld_7 x1]
  rfl

end Cert.KernelIdeal.Block

end
-- ==== Proof.Whole.lean ====
/- The layer function both programs compute, over whole arrays, in the order the tiled program sums it. Extended reals only. -/
module

public import proofs.«01_k».proof.Proof.Bucket

@[expose] public section

noncomputable section

namespace Cert.Whole

open Idealize.ShloMosaic Idealize.ShloMosaic.ValueIdx Cert.Bucket
open scoped BigOperators

/-- Input `p` of position `l` is row `4 l + p` of the first layer's weight. -/
def mix (l : Fin 64) (p : Fin 4) : Fin 256 := ⟨4 * l.val + p.val, by omega⟩

/-- The two fractions of a position. -/
abbrev Fracs := (⟨3, ![8192, 64, 2]⟩ : Shape).Idx → EReal

/-- The bucket of fraction `d` of position `l` of row `r`, as a number. -/
def bkt (s : Fracs) (r : Fin 8192) (l : Fin 64) (d : Fin 2) : ℕ := (bucket (s (ix3 r l d))).toNat

/-- Hidden unit `n` of row `r`: the positive part of the first layer, its 256 inputs summed four groups of 64 at a time. -/
def hiddenUnit (s : Fracs) (T0 T1 : (⟨2, ![12, 2]⟩ : Shape).Idx → EReal) (W : (⟨2, ![256, 4096]⟩ : Shape).Idx → EReal)
    (b : (⟨1, ![4096]⟩ : Shape).Idx → EReal) (r : Fin 8192) (n : Fin 4096) : EReal :=
  max ((∑ l : Fin 64, entry T0 (bkt s r l 0) 0 * W (ix2 (mix l 0) n))
      + (∑ l : Fin 64, entry T0 (bkt s r l 0) 1 * W (ix2 (mix l 1) n))
      + (∑ l : Fin 64, entry T1 (bkt s r l 1) 0 * W (ix2 (mix l 2) n))
      + (∑ l : Fin 64, entry T1 (bkt s r l 1) 1 * W (ix2 (mix l 3) n)) + b (ix1 n)) 0

/-- Output `j` of row `r` of one expert: the second layer of the hidden units. -/
def out (s : Fracs) (T0 T1 : (⟨2, ![12, 2]⟩ : Shape).Idx → EReal) (W : (⟨2, ![256, 4096]⟩ : Shape).Idx → EReal)
    (b : (⟨1, ![4096]⟩ : Shape).Idx → EReal) (W2 : (⟨2, ![4096, 2048]⟩ : Shape).Idx → EReal)
    (b2 : (⟨1, ![2048]⟩ : Shape).Idx → EReal) (r : Fin 8192) (j : Fin 2048) : EReal :=
  (∑ n : Fin 4096, hiddenUnit s T0 T1 W b r n * W2 (ix2 n j)) + b2 (ix1 j)

/-- The output array: at `(r, j)` the second expert's output where the row's selector is positive, else the first's. -/
def result (s : Fracs) (sel : (⟨1, ![8192]⟩ : Shape).Idx → BitVec 32) (Tac Ttc Tal Ttl : (⟨2, ![12, 2]⟩ : Shape).Idx → EReal)
    (Wc : (⟨2, ![256, 4096]⟩ : Shape).Idx → EReal) (bc : (⟨1, ![4096]⟩ : Shape).Idx → EReal)
    (W2c : (⟨2, ![4096, 2048]⟩ : Shape).Idx → EReal) (b2c : (⟨1, ![2048]⟩ : Shape).Idx → EReal)
    (Wl : (⟨2, ![256, 4096]⟩ : Shape).Idx → EReal) (bl : (⟨1, ![4096]⟩ : Shape).Idx → EReal)
    (W2l : (⟨2, ![4096, 2048]⟩ : Shape).Idx → EReal) (b2l : (⟨1, ![2048]⟩ : Shape).Idx → EReal) :
    (⟨2, ![8192, 2048]⟩ : Shape).Idx → EReal := fun i =>
  Scalar.select (IntOp.cmpi .sgt (sel (ix1 (i 0))) 0#32) (out s Tal Ttl Wl bl W2l b2l (i 0) (i 1)) (out s Tac Ttc Wc bc W2c b2c (i 0) (i 1))

/-- A sum over the 256 inputs is the sum, over the four inputs of a position, of the sums over the 64 positions. -/
theorem sum_mix (f : Fin 256 → EReal) :
    (∑ k : Fin 256, f k) = (∑ l : Fin 64, f (mix l 0)) + (∑ l : Fin 64, f (mix l 1)) + (∑ l : Fin 64, f (mix l 2))
      + (∑ l : Fin 64, f (mix l 3)) := by
  rw [← Equiv.sum_comp (finProdFinEquiv (m := 64) (n := 4)) f, Fintype.sum_prod_type]
  simp only [Fin.sum_univ_four]
  rw [Finset.sum_add_distrib, Finset.sum_add_distrib, Finset.sum_add_distrib]
  have e : ∀ (l : Fin 64) (p : Fin 4), (finProdFinEquiv (l, p) : Fin (64 * 4)) = mix l p := fun l p => by
    refine Fin.ext ?_
    show p.val + 4 * l.val = 4 * l.val + p.val
    omega
  simp only [e]

end Cert.Whole

end
-- ==== Proof.Array.lean ====
/- The arrays that the host code prepares for the tiled call, each at an index, in the arguments. -/
module

public import proofs.«01_k».proof.Proof.Block
public import proofs.«01_k».proof.Proof.Whole
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.KernelIdeal.Block Cert.Bucket Cert.Whole
open Idealize.ShloMosaic hiding ix1 ix2 ix3
open Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-! ## The arrays prepared before the tiled part, at an index -/

/-- One fraction of every position, cut out of the pairs and laid flat, at an index. -/
theorem plane_apply (s : Fracs) (d : Fin 2) (h : S8192x64x2.Slices ![0, 0, d.val] S8192x64x1)
    (h' : S8192x64x1.ShapeCasts S8192x64) (r : Fin 8192) (l : Fin 64) :
    shapeCast S8192x64 (extractStridedSlice S8192x64x1 ![0, 0, d.val] s h) h' (ix2 r l) = s (ix3 r l d) := by
  refine (shapeCast_apply _ h' (ix2 r l) (ix3 r l (0 : Fin 1)) ?_).trans
    (extractStridedSlice_apply _ s h (ix3 r l (0 : Fin 1)) (ix3 r l d) fun a => ?_)
  · rw [Shape.rowMajor_val_three, Shape.rowMajor_val_two]
    show (r.val * 64 + l.val) * 1 + 0 = r.val * 64 + l.val
    omega
  · match a with
    | ⟨0, _⟩ => show r.val = 0 + r.val; omega
    | ⟨1, _⟩ => show l.val = 0 + l.val; omega
    | ⟨2, _⟩ => show d.val = d.val + 0; omega

/-- The fractions laid side by side: the left half of a row holds each position's first fraction. -/
theorem fracs_first (c : Dev nD) (r : Fin 8192) (l : Fin 64) :
    V m c main_v4 (ix2 r (first l)) = m ((c : Thread nD τ).loc main_arg0) (ix3 r l (0 : Fin 2)) := by
  entry_read
  refine (concatenate_pair_apply_left (s₁ := S8192x64) (s₂ := S8192x64) 1 _ _ _ (ix2 r (first l)) rfl (ix2 r l) fun b => ?_).trans ?_
  · match b with
    | ⟨0, _⟩ => rfl
    | ⟨1, _⟩ => rfl
  · exact plane_apply (m ((c : Thread nD τ).loc main_arg0)) 0 _ _ r l

/-- The right half of a row holds each position's second fraction. -/
theorem fracs_second (c : Dev nD) (r : Fin 8192) (l : Fin 64) :
    V m c main_v4 (ix2 r (second l)) = m ((c : Thread nD τ).loc main_arg0) (ix3 r l (1 : Fin 2)) := by
  entry_read
  refine (concatenate_pair_apply_right (s₁ := S8192x64) (s₂ := S8192x64) 1 _ _ _ (ix2 r (second l)) rfl rfl (ix2 r l) (fun b hb => ?_) ?_).trans ?_
  · match b with
    | ⟨0, _⟩ => rfl
    | ⟨1, _⟩ => exact absurd rfl hb
  · show l.val + 64 = 64 + l.val; omega
  · exact plane_apply (m ((c : Thread nD τ).loc main_arg0)) 1 _ _ r l

/-- The selectors as a column, at an index. -/
theorem selectors (c : Dev nD) (r : Fin 8192) :
    V m c main_v5 (ix2 r (0 : Fin 1)) = m ((c : Thread nD τ).loc main_arg1) (ix1 r) := by
  entry_read
  refine shapeCast_apply _ _ (ix2 r (0 : Fin 1)) (ix1 r) ?_
  rw [Shape.rowMajor_val_one, Shape.rowMajor_val_two]
  show r.val = r.val * 1 + 0
  omega

/-- A first-layer weight split into its four interleaved parts, at an index. -/
theorem split_apply (W : (⟨2, ![256, 4096]⟩ : Shape).Idx → EReal) (p : Fin 4) (l : Fin 64) (n : Fin 4096) :
    transpose S4x64x4096 [1, 0, 2] (shapeCast S64x4x4096 W shapeCasts_S256x4096_S64x4x4096) transposes_S64x4x4096_S4x64x4096_1_0_2
      (ix3 p l n) = W (ix2 (mix l p) n) := by
  refine (transpose_apply _ _ _ (ix3 p l n) (ix3 l p n) fun b => ?_).trans
    (shapeCast_apply _ _ (ix3 l p n) (ix2 (mix l p) n) ?_)
  · match b with
    | ⟨0, _⟩ => rfl
    | ⟨1, _⟩ => rfl
    | ⟨2, _⟩ => rfl
  · rw [Shape.rowMajor_val_two, Shape.rowMajor_val_three]
    show (4 * l.val + p.val) * 4096 + n.val = (l.val * 4 + p.val) * 4096 + n.val
    omega

/-- The first expert's first-layer weight, split. -/
theorem weight_c (c : Dev nD) (p : Fin 4) (l : Fin 64) (n : Fin 4096) :
    V m c main_v7 (ix3 p l n) = m ((c : Thread nD τ).loc main_arg6) (ix2 (mix l p) n) := by
  entry_read
  exact split_apply (m ((c : Thread nD τ).loc main_arg6)) p l n

/-- The second expert's first-layer weight, split. -/
theorem weight_l (c : Dev nD) (p : Fin 4) (l : Fin 64) (n : Fin 4096) :
    V m c main_v9 (ix3 p l n) = m ((c : Thread nD τ).loc main_arg10) (ix2 (mix l p) n) := by
  entry_read
  exact split_apply (m ((c : Thread nD τ).loc main_arg10)) p l n

/-- A vector laid out as one row, at an index. -/
theorem row_apply {k : ℕ} (b : (⟨1, ![k]⟩ : Shape).Idx → EReal) (h : (⟨1, ![k]⟩ : Shape).ShapeCasts ⟨2, ![1, k]⟩) (n : Fin k) :
    shapeCast ⟨2, ![1, k]⟩ b h (ix2 (0 : Fin 1) n) = b (ix1 n) := by
  refine shapeCast_apply _ _ (ix2 (0 : Fin 1) n) (ix1 n) ?_
  rw [Shape.rowMajor_val_one, Shape.rowMajor_val_two]
  show n.val = 0 * k + n.val
  omega

/-- The first expert's first bias as a row. -/
theorem bias_c (c : Dev nD) (n : Fin 4096) : V m c main_v10 (ix2 (0 : Fin 1) n) = m ((c : Thread nD τ).loc main_arg7) (ix1 n) := by
  entry_read
  exact row_apply (m ((c : Thread nD τ).loc main_arg7)) _ n

/-- The second expert's first bias as a row. -/
theorem bias_l (c : Dev nD) (n : Fin 4096) : V m c main_v11 (ix2 (0 : Fin 1) n) = m ((c : Thread nD τ).loc main_arg11) (ix1 n) := by
  entry_read
  exact row_apply (m ((c : Thread nD τ).loc main_arg11)) _ n

/-- The first expert's second bias as a row. -/
theorem bias2_c (c : Dev nD) (n : Fin 2048) : V m c main_v12 (ix2 (0 : Fin 1) n) = m ((c : Thread nD τ).loc main_arg9) (ix1 n) := by
  entry_read
  exact row_apply (m ((c : Thread nD τ).loc main_arg9)) _ n

/-- The second expert's second bias as a row. -/
theorem bias2_l (c : Dev nD) (n : Fin 2048) : V m c main_v13 (ix2 (0 : Fin 1) n) = m ((c : Thread nD τ).loc main_arg13) (ix1 n) := by
  entry_read
  exact row_apply (m ((c : Thread nD τ).loc main_arg13)) _ n

end Cert.KernelIdeal.Array

end
-- ==== Proof.Final.lean ====
/- The blocks a grid point reads and the block it writes, and so the whole output array. -/
module

public import proofs.«01_k».proof.Proof.Array

@[expose] public section

set_option maxRecDepth 16384

noncomputable section

namespace Cert.KernelIdeal.Array

open Cert.KernelIdeal Cert.KernelIdeal.Gen Cert.KernelIdeal.Block Cert.Bucket Cert.Whole
open Idealize.ShloMosaic hiding ix1 ix2 ix3
open Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- Where each window's block lies at a grid point: rows follow the point's remainder by 32, columns its quotient. -/
theorem idx : ∀ t : Fin cfg0.N, win0_0.index t = ![t.val % 32, 0] ∧ win0_1.index t = ![t.val % 32, 0] ∧ win0_2.index t = ![0, 0] ∧ win0_3.index t = ![0, 0] ∧ win0_4.index t = ![0, 0] ∧ win0_5.index t = ![0, 0] ∧ win0_6.index t = ![0, 0, 0] ∧ win0_7.index t = ![0, 0] ∧ win0_8.index t = ![0, t.val / 32] ∧ win0_9.index t = ![0, t.val / 32] ∧ win0_10.index t = ![0, 0, 0] ∧ win0_11.index t = ![0, 0] ∧ win0_12.index t = ![0, t.val / 32] ∧ win0_13.index t = ![0, t.val / 32] ∧ win0_14.index t = ![t.val % 32, t.val / 32] :=
  (by decide +kernel : ∀ t : Fin grid0.N, _)

/-- A grid point's number is below 128. -/
theorem pt (t : Fin cfg0.N) : t.val < 128 := lt_of_lt_of_eq t.isLt N_0

/-- The array row of row `r` of a point's block. -/
def row (t : Fin cfg0.N) (r : Fin 256) : Fin 8192 := ⟨t.val % 32 * 256 + r.val, by omega⟩
/-- The array column of column `j` of a point's block. -/
def col (t : Fin cfg0.N) (j : Fin 512) : Fin 2048 := ⟨t.val / 32 * 512 + j.val, by have := pt t; omega⟩

/-- Window 0's block at a point, read at an index, is its array there. -/
theorem blk0 (c : Dev nD) (t : Fin cfg0.N) (r : Fin 256) (k : Fin 128) : iblk m c 0 t (ix2 r k) = V m c main_v4 (ix2 (row t r) k) := by
  blk_ext [iblk, row, col, idx t]

/-- Window 1's block at a point, read at an index, is its array there. -/
theorem blk1 (c : Dev nD) (t : Fin cfg0.N) (r : Fin 256) (k : Fin 1) : iblk m c 1 t (ix2 r k) = V m c main_v5 (ix2 (row t r) k) := by
  blk_ext [iblk, row, col, idx t]

/-- Window 8's block at a point, read at an index, is its array there. -/
theorem blk8 (c : Dev nD) (t : Fin cfg0.N) (n : Fin 4096) (j : Fin 512) : iblk m c 8 t (ix2 n j) = V m c main_arg8 (ix2 n (col t j)) := by
  blk_ext [iblk, row, col, idx t]

/-- Window 9's block at a point, read at an index, is its array there. -/
theorem blk9 (c : Dev nD) (t : Fin cfg0.N) (k : Fin 1) (j : Fin 512) : iblk m c 9 t (ix2 k j) = V m c main_v12 (ix2 k (col t j)) := by
  blk_ext [iblk, row, col, idx t]

/-- Window 12's block at a point, read at an index, is its array there. -/
theorem blk12 (c : Dev nD) (t : Fin cfg0.N) (n : Fin 4096) (j : Fin 512) : iblk m c 12 t (ix2 n j) = V m c main_arg12 (ix2 n (col t j)) := by
  blk_ext [iblk, row, col, idx t]

/-- Window 13's block at a point, read at an index, is its array there. -/
theorem blk13 (c : Dev nD) (t : Fin cfg0.N) (k : Fin 1) (j : Fin 512) : iblk m c 13 t (ix2 k j) = V m c main_v13 (ix2 k (col t j)) := by
  blk_ext [iblk, row, col, idx t]

/-- Window 2's block is its whole array at every point. -/
theorem blk2 (c : Dev nD) (t : Fin cfg0.N) : iblk m c 2 t = V m c main_arg2 := by
  blk_ext! [iblk, idx t]

/-- Window 3's block is its whole array at every point. -/
theorem blk3 (c : Dev nD) (t : Fin cfg0.N) : iblk m c 3 t = V m c main_arg3 := by
  blk_ext! [iblk, idx t]

/-- Window 4's block is its whole array at every point. -/
theorem blk4 (c : Dev nD) (t : Fin cfg0.N) : iblk m c 4 t = V m c main_arg4 := by
  blk_ext! [iblk, idx t]

/-- Window 5's block is its whole array at every point. -/
theorem blk5 (c : Dev nD) (t : Fin cfg0.N) : iblk m c 5 t = V m c main_arg5 := by
  blk_ext! [iblk, idx t]

/-- Window 6's block is its whole array at every point. -/
theorem blk6 (c : Dev nD) (t : Fin cfg0.N) : iblk m c 6 t = V m c main_v7 := by
  blk_ext! [iblk, idx t]

/-- Window 7's block is its whole array at every point. -/
theorem blk7 (c : Dev nD) (t : Fin cfg0.N) : iblk m c 7 t = V m c main_v10 := by
  blk_ext! [iblk, idx t]

/-- Window 10's block is its whole array at every point. -/
theorem blk10 (c : Dev nD) (t : Fin cfg0.N) : iblk m c 10 t = V m c main_v9 := by
  blk_ext! [iblk, idx t]

/-- Window 11's block is its whole array at every point. -/
theorem blk11 (c : Dev nD) (t : Fin cfg0.N) : iblk m c 11 t = V m c main_v11 := by
  blk_ext! [iblk, idx t]

/-- The result over the arrays a memory holds for the fourteen arguments. -/
def ofArgs (c : Dev nD) : (⟨2, ![8192, 2048]⟩ : Shape).Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Two choices with equal conditions and equal branches are equal. -/
theorem select_eq {a a' : BitVec 1} {x x' y y' : EReal} (h : a = a') (hx : x = x') (hy : y = y') :
    Scalar.select a x y = Scalar.select a' x' y' := by rw [h, hx, hy]

/-- One expert on one row of a block, when the block's arrays are the whole arrays at the row and column's places. -/
theorem expert_eq (c : Dev nD) (t : Fin cfg0.N) (r : Fin 256) (j : Fin 512) (x0 : Vec Ideal S256x128 .f32) (T0 T1 : Vec Ideal S12x2 .f32)
    (W : FVec Ideal S4x64x4096 .f32) (b : FVec Ideal S1x4096 .f32) (W2 : FVec Ideal S4096x512 .f32) (b2 : FVec Ideal S1x512 .f32)
    (T0' T1' : (⟨2, ![12, 2]⟩ : Shape).Idx → EReal) (W' : (⟨2, ![256, 4096]⟩ : Shape).Idx → EReal)
    (b' : (⟨1, ![4096]⟩ : Shape).Idx → EReal) (W2' : (⟨2, ![4096, 2048]⟩ : Shape).Idx → EReal) (b2' : (⟨1, ![2048]⟩ : Shape).Idx → EReal)
    (h0 : ∀ k, x0 (ix2 r k) = V m c main_v4 (ix2 (row t r) k)) (hT0 : T0 = T0') (hT1 : T1 = T1')
    (hW : ∀ p l n, W (ix3 p l n) = W' (ix2 (mix l p) n)) (hb : ∀ n, b (ix2 (0 : Fin 1) n) = b' (ix1 n))
    (hW2 : ∀ n, W2 (ix2 n j) = W2' (ix2 n (col t j))) (hb2 : b2 (ix2 (0 : Fin 1) j) = b2' (ix1 (col t j))) :
    expert (fun l => bucket (x0 (ix2 r (first l)))) (fun l => bucket (x0 (ix2 r (second l)))) T0 T1 W b W2 b2 j
    = out (m ((c : Thread nD τ).loc main_arg0)) T0' T1' W' b' W2' b2' (row t r) (col t j) := by
  have e0 : ∀ l, x0 (ix2 r (first l)) = m ((c : Thread nD τ).loc main_arg0) (ix3 (row t r) l (0 : Fin 2)) := fun l =>
    (h0 _).trans (fracs_first m c _ l)
  have e1 : ∀ l, x0 (ix2 r (second l)) = m ((c : Thread nD τ).loc main_arg0) (ix3 (row t r) l (1 : Fin 2)) := fun l =>
    (h0 _).trans (fracs_second m c _ l)
  subst hT0 hT1
  unfold expert out hiddenUnit bkt
  simp only [e0, e1, hW, hb, hW2, hb2]

/-- The block a point leaves, at an index, is the result at the block's place in the array. -/
theorem point (c : Dev nD) (t : Fin cfg0.N) (r : Fin 256) (j : Fin 512) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 r j)
    = ofArgs m c (ix2 (row t r) (col t j)) := by
  refine (out_apply _ _ _ _ _ _ _ _ _ _ _ _ _ _ r j).trans ?_
  exact select_eq (congrArg (IntOp.cmpi .sgt · 0#32) ((blk1 m c t r 0).trans (selectors m c (row t r))))
    (expert_eq m c t r j (iblk m c 0 t) (iblk m c 4 t) (iblk m c 5 t) (iblk m c 10 t) (iblk m c 11 t) (iblk m c 12 t) (iblk m c 13 t)
      _ _ _ _ _ _ (fun k => blk0 m c t r k) (blk4 m c t) (blk5 m c t) (fun p l n => (congrFun (blk10 m c t) _).trans (weight_l m c p l n))
      (fun n => (congrFun (blk11 m c t) _).trans (bias_l m c n)) (fun n => blk12 m c t n j) ((blk13 m c t 0 j).trans (bias2_l m c _)))
    (expert_eq m c t r j (iblk m c 0 t) (iblk m c 2 t) (iblk m c 3 t) (iblk m c 6 t) (iblk m c 7 t) (iblk m c 8 t) (iblk m c 9 t)
      _ _ _ _ _ _ (fun k => blk0 m c t r k) (blk2 m c t) (blk3 m c t) (fun p l n => (congrFun (blk6 m c t) _).trans (weight_c m c p l n))
      (fun n => (congrFun (blk7 m c t) _).trans (bias_c m c n)) (fun n => blk8 m c t n j) ((blk9 m c t 0 j).trans (bias2_c m c _)))

/-- THE OUTPUT ARRAY after the run is the result over the arguments. -/
theorem final (c : Dev nD) : (dats m 0 c).arrAt 14 (cfgs 0).N = ofArgs m c := by
  refine (dats m 0 c).arrAt_eq_of_covers 14 _ (by decide +kernel) fun t _ y => ?_
  blk_simp
  rw [after0_14]
  obtain ⟨r, j, rfl⟩ : ∃ (r : Fin 256) (j : Fin 512), y = ix2 r j := ⟨y 0, y 1, by funext a; match a with | ⟨0, _⟩ => rfl | ⟨1, _⟩ => rfl⟩
  refine (point m c t r j).trans ?_
  blk_ext [row, col, idx t]

end Cert.KernelIdeal.Array

end
-- ==== Proof.RefValue.lean ====
/- The reference's output at an index: the same sums as the tiled program's, when every bucket lies inside the table. -/
module

public import proofs.«01_k».proof.Proof.Gen.ReferenceIdeal.Read
public import proofs.«01_k».proof.Proof.Whole

@[expose] public section

set_option maxRecDepth 16384

noncomputable section

namespace Cert.ReferenceIdeal.RefValue

open Cert.ReferenceIdeal Cert.ReferenceIdeal.Gen Cert.ReferenceIdeal.Read Cert.Bucket Cert.Whole
open Idealize.ShloMosaic Idealize.ShloMosaic.ValueIdx
open scoped BigOperators

/-- The reference's table lookup. -/
abbrev look : GatherDims S12x2 S8192x64x1x1 S8192x64x1x2 := gather_S12x2_S8192x64x1x1_S8192x64x1x2_3_0_n_n_0_3_12

/-- The lookup at an index: the table's row the word selects, read signed and held inside the table. -/
theorem look_apply (T : S12x2.Idx → EReal) (q : IVec S8192x64x1x1 32) (r : Fin 8192) (l : Fin 64) (d : Fin 2) :
    Host.gather look T q (ix4 r l (0 : Fin 1) d)
    = T (ix2 ⟨min (q (ix4 r l (0 : Fin 1) (0 : Fin 1))).toInt.toNat 11, by omega⟩ d) := by
  unfold Host.gather
  congr 1
  funext a
  refine Fin.ext ?_
  show look.start _ q a + look.batchCoord _ a + look.offCoord _ a = _
  rw [GatherDims.batchCoord_eq_zero _ _ _ (List.not_mem_nil), Nat.add_zero]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ look.startIndexMap from List.mem_singleton.mpr rfl)]
    have hs : ∀ c, look.siIdx (ix4 r l (0 : Fin 1) d) c = ix4 r l (0 : Fin 1) (0 : Fin 1) := fun c => by
      funext b
      refine Fin.ext ?_
      match b with
      | ⟨0, _⟩ => rfl
      | ⟨1, _⟩ => rfl
      | ⟨2, _⟩ => rfl
      | ⟨3, _⟩ => have := c.isLt; show c.val = 0; exact Nat.lt_one_iff.mp this
    rw [hs]
    rfl
  · unfold GatherDims.start
    rw [dif_neg (show ¬((1 : Fin 2) ∈ look.startIndexMap) by decide), Nat.zero_add]
    rfl

/-- A word below 12 is not negative: the wrap of negative indices leaves it alone. -/
theorem wrap_eq (b : BitVec 32) (h : b.toNat < 12) :
    Scalar.select (IntOp.cmpi .slt b 0#32) (IntOp.addi b 12#32) b = b := by
  obtain ⟨n, hn⟩ : ∃ n, b.toNat = n := ⟨_, rfl⟩
  have hb : b = BitVec.ofNat 32 n := by rw [← hn, BitVec.ofNat_toNat, BitVec.setWidth_eq]
  rw [hn] at h
  subst hb
  clear hn
  interval_cases n <;> decide

/-- A word below 12, read signed and held inside the table, is itself. -/
theorem clamp_eq (b : BitVec 32) (h : b.toNat < 12) : min b.toInt.toNat 11 = b.toNat := by
  rw [BitVec.toInt_eq_toNat_of_lt (by omega), Int.toNat_natCast]
  omega

/-- The lookup of a word below 12 is the table's entry at it. -/
theorem look_entry (T : S12x2.Idx → EReal) (q : IVec S8192x64x1x1 32) (r : Fin 8192) (l : Fin 64) (d : Fin 2) (b : BitVec 32)
    (hq : q (ix4 r l (0 : Fin 1) (0 : Fin 1)) = b) (h : b.toNat < 12) :
    Host.gather look T q (ix4 r l (0 : Fin 1) d) = entry T b.toNat d.val := by
  subst hq
  rw [look_apply]
  unfold entry
  rw [dif_pos ⟨h, d.isLt⟩]
  congr 1
  funext a
  match a with
  | ⟨0, _⟩ => exact Fin.ext (clamp_eq _ h)
  | ⟨1, _⟩ => rfl

variable (s : Fracs)

/-- The reference's quantized fractions are the buckets. -/
theorem quantized (i : S8192x64x2.Idx) : val_main_v9 (F := Ideal) s i = bucket (s i) := rfl

/-- The words the first lookup reads are the buckets of the first fractions, when these lie in the table. -/
theorem words_first (r : Fin 8192) (l : Fin 64) (h : (bucket (s (ix3 r l (0 : Fin 2)))).toNat < 12) :
    val_main_v16 (F := Ideal) s (ix4 r l (0 : Fin 1) (0 : Fin 1)) = bucket (s (ix3 r l (0 : Fin 2))) := by
  have e : val_main_v10 (F := Ideal) s (idx_main_v16 (ix4 r l (0 : Fin 1) (0 : Fin 1))) = bucket (s (ix3 r l (0 : Fin 2))) := by
    rw [val_main_v10_apply, quantized]
    congr 2
    funext a
    match a with
    | ⟨0, _⟩ => rfl
    | ⟨1, _⟩ => rfl
    | ⟨2, _⟩ => rfl
  rw [val_main_v16_apply, val_main_v15_apply, val_main_v12_apply, val_main_v14_apply, val_main_v11_apply, val_main_v13_apply,
    val_main_c_2_apply, val_main_c_3_apply, e]
  exact wrap_eq _ h

/-- The words the second lookup reads are the buckets of the second fractions, when these lie in the table. -/
theorem words_second (r : Fin 8192) (l : Fin 64) (h : (bucket (s (ix3 r l (1 : Fin 2)))).toNat < 12) :
    val_main_v24 (F := Ideal) s (ix4 r l (0 : Fin 1) (0 : Fin 1)) = bucket (s (ix3 r l (1 : Fin 2))) := by
  have e : val_main_v18 (F := Ideal) s (idx_main_v24 (ix4 r l (0 : Fin 1) (0 : Fin 1))) = bucket (s (ix3 r l (1 : Fin 2))) := by
    rw [val_main_v18_apply, quantized]
    congr 2
    funext a
    match a with
    | ⟨0, _⟩ => rfl
    | ⟨1, _⟩ => rfl
    | ⟨2, _⟩ => rfl
  rw [val_main_v24_apply, val_main_v23_apply, val_main_v20_apply, val_main_v22_apply, val_main_v19_apply, val_main_v21_apply,
    val_main_c_4_apply, val_main_c_5_apply, e]
  exact wrap_eq _ h

variable (T0 T1 : S12x2.Idx → EReal) (W : S256x4096.Idx → EReal) (b : S4096.Idx → EReal) (W2 : S4096x2048.Idx → EReal)
  (b2 : S2048.Idx → EReal)

/-- Inputs 0 and 1 of a position come from the first table. -/
theorem input_first (r : Fin 8192) (l : Fin 64) (d : Fin 2) (h : ∀ i, (bucket (s i)).toNat < 12) :
    val_main_v26 (F := Ideal) s T0 T1 (ix4 r l (0 : Fin 2) d) = entry T0 (bkt s r l 0) d.val := by
  unfold val_main_v26
  refine (concatenate_pair_apply_left (s₁ := S8192x64x1x2) (s₂ := S8192x64x1x2) 2 _ _ _ (ix4 r l (0 : Fin 2) d) rfl
    (ix4 r l (0 : Fin 1) d) fun a => ?_).trans ?_
  · match a with
    | ⟨0, _⟩ => rfl
    | ⟨1, _⟩ => rfl
    | ⟨2, _⟩ => rfl
    | ⟨3, _⟩ => rfl
  · exact look_entry T0 _ r l d _ (words_first s r l (h _)) (h _)

/-- Inputs 2 and 3 of a position come from the second table. -/
theorem input_second (r : Fin 8192) (l : Fin 64) (d : Fin 2) (h : ∀ i, (bucket (s i)).toNat < 12) :
    val_main_v26 (F := Ideal) s T0 T1 (ix4 r l (1 : Fin 2) d) = entry T1 (bkt s r l 1) d.val := by
  unfold val_main_v26
  refine (concatenate_pair_apply_right (s₁ := S8192x64x1x2) (s₂ := S8192x64x1x2) 2 _ _ _ (ix4 r l (1 : Fin 2) d) rfl rfl
    (ix4 r l (0 : Fin 1) d) (fun a ha => ?_) rfl).trans ?_
  · match a with
    | ⟨0, _⟩ => rfl
    | ⟨1, _⟩ => rfl
    | ⟨2, _⟩ => exact absurd rfl ha
    | ⟨3, _⟩ => rfl
  · exact look_entry T1 _ r l d _ (words_second s r l (h _)) (h _)

/-- The flattened inputs: input `2 t + d` of a position is the pair's part `t`, coordinate `d`. -/
theorem flat (r : Fin 8192) (l : Fin 64) (p : Fin 4) (t d : Fin 2) (hp : p.val = 2 * t.val + d.val) :
    val_main_v27 (F := Ideal) s T0 T1 (ix2 r (mix l p)) = val_main_v26 (F := Ideal) s T0 T1 (ix4 r l t d) := by
  rw [val_main_v27_apply]
  congr 1
  funext a
  refine Fin.ext ?_
  match a with
  | ⟨0, _⟩ => show (r.val * 256 + (4 * l.val + p.val)) / 256 = r.val; omega
  | ⟨1, _⟩ => show (r.val * 256 + (4 * l.val + p.val)) / 4 % 64 = l.val; omega
  | ⟨2, _⟩ => show (r.val * 256 + (4 * l.val + p.val)) / 2 % 2 = t.val; omega
  | ⟨3, _⟩ => show (r.val * 256 + (4 * l.val + p.val)) % 2 = d.val; omega

/-- The first layer before its bias, at an index: the 256 inputs' sum in four groups of 64. -/
theorem layer1 (r : Fin 8192) (n : Fin 4096) (h : ∀ i, (bucket (s i)).toNat < 12) :
    val_main_v28 (F := Ideal) s T0 T1 W (ix2 r n)
    = (∑ l : Fin 64, entry T0 (bkt s r l 0) 0 * W (ix2 (mix l 0) n)) + (∑ l : Fin 64, entry T0 (bkt s r l 0) 1 * W (ix2 (mix l 1) n))
      + (∑ l : Fin 64, entry T1 (bkt s r l 1) 0 * W (ix2 (mix l 2) n)) + (∑ l : Fin 64, entry T1 (bkt s r l 1) 1 * W (ix2 (mix l 3) n)) := by
  have el : ∀ k, lidx_main_v28 (ix2 r n) k = ix2 r k := fun k => by
    funext a
    match a with
    | ⟨0, _⟩ => rfl
    | ⟨1, _⟩ => rfl
  have er : ∀ k, ridx_main_v28 (ix2 r n) k = ix2 k n := fun k => by
    funext a
    match a with
    | ⟨0, _⟩ => rfl
    | ⟨1, _⟩ => rfl
  rw [val_main_v28_apply]
  simp only [el, er]
  rw [sum_mix]
  simp only [flat s T0 T1 r _ 0 0 0 rfl, flat s T0 T1 r _ 1 0 1 rfl, flat s T0 T1 r _ 2 1 0 rfl, flat s T0 T1 r _ 3 1 1 rfl,
    input_first s T0 T1 r _ _ h, input_second s T0 T1 r _ _ h]
  rfl

/-- The hidden units, at an index. -/
theorem units (r : Fin 8192) (n : Fin 4096) (h : ∀ i, (bucket (s i)).toNat < 12) :
    val_main_v33 (F := Ideal) s T0 T1 W b (ix2 r n) = hiddenUnit s T0 T1 W b r n := by
  rw [val_main_v33_apply, val_main_v31_apply, val_main_v30_apply, val_main_v29_apply, val_main_v32_apply, val_main_cst_6_apply,
    layer1 s T0 T1 W r n h]
  have eb : idx_main_v29 (idx_main_v30 (ix2 r n)) = ix1 n := by
    funext a
    match a with
    | ⟨0, _⟩ => rfl
  rw [eb]
  show max _ (Ideal.ofBits .f32 0x00000000#32) = _
  rw [Ideal.ofBits_zero_f32]
  rfl

/-- One expert of the reference, at an index. -/
theorem expert_c (r : Fin 8192) (j : Fin 2048) (h : ∀ i, (bucket (s i)).toNat < 12) :
    val_main_v37 (F := Ideal) s T0 T1 W b W2 b2 (ix2 r j) = out s T0 T1 W b W2 b2 r j := by
  have el : ∀ k, lidx_main_v34 (ix2 r j) k = ix2 r k := fun k => by
    funext a
    match a with
    | ⟨0, _⟩ => rfl
    | ⟨1, _⟩ => rfl
  have er : ∀ k, ridx_main_v34 (ix2 r j) k = ix2 k j := fun k => by
    funext a
    match a with
    | ⟨0, _⟩ => rfl
    | ⟨1, _⟩ => rfl
  have eb : idx_main_v35 (idx_main_v36 (ix2 r j)) = ix1 j := by
    funext a
    match a with
    | ⟨0, _⟩ => rfl
  rw [val_main_v37_apply, val_main_v34_apply, val_main_v36_apply, val_main_v35_apply, eb]
  simp only [el, er, units s T0 T1 W b r _ h]
  rfl

/-- The reference's two experts are one function of their own tables and weights. -/
theorem expert_l : val_main_v65 (F := Ideal) s T0 T1 W b W2 b2 = val_main_v37 (F := Ideal) s T0 T1 W b W2 b2 := rfl

/-- The reference's selector at an index: whether the row's selector is positive. -/
theorem selector (sel : S8192.Idx → BitVec 32) (r : Fin 8192) (j : Fin 2048) :
    val_main_call1_v0 (F := Ideal) sel (ix2 r j) = IntOp.cmpi .sgt (sel (ix1 r)) 0#32 := by
  rw [val_main_call1_v0_apply, val_main_v68_apply, val_main_v67_apply, val_main_v66_apply]
  have e : idx_main_v68 (idx_main_call1_v0 (ix2 r j)) = ix1 r := by
    funext a
    match a with
    | ⟨0, _⟩ => rfl
  rw [e]
  rfl

/-- THE REFERENCE'S OUTPUT is the tiled program's result, when every fraction's bucket lies inside the table. -/
theorem reference_eq (sel : S8192.Idx → BitVec 32) (Tac Ttc Tal Ttl : S12x2.Idx → EReal)
    (Wc : S256x4096.Idx → EReal) (bc : S4096.Idx → EReal) (W2c : S4096x2048.Idx → EReal) (b2c : S2048.Idx → EReal)
    (Wl : S256x4096.Idx → EReal) (bl : S4096.Idx → EReal) (W2l : S4096x2048.Idx → EReal) (b2l : S2048.Idx → EReal)
    (h : ∀ i, (bucket (s i)).toNat < 12) :
    val_main_v69 (F := Ideal) s sel Tac Ttc Tal Ttl Wc bc W2c b2c Wl bl W2l b2l
    = result s sel Tac Ttc Tal Ttl Wc bc W2c b2c Wl bl W2l b2l := by
  funext i
  obtain ⟨r, j, rfl⟩ : ∃ (r : Fin 8192) (j : Fin 2048), i = ix2 r j := ⟨i 0, i 1, eq_ix2 i⟩
  rw [val_main_v69_apply, selector, expert_l, expert_c s Tal Ttl Wl bl W2l b2l r j h, expert_c s Tac Ttc Wc bc W2c b2c r j h]
  rfl

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_buckets_in_table
public import proofs.«01_k».proof.Proof.Final
public import proofs.«01_k».proof.Proof.RefValue
public import Idealize.ShloMosaic.Lib.Quiescent
public import Idealize.ShloMosaic.Lib.ReduceAll
public import Idealize.ShloMosaic.Adequacy
public import Idealize.ShloMosaic.Init

@[expose] public section

noncomputable section

namespace Cert.Proof

open Idealize.ShloMosaic Idealize.SL.Sem

/-- The kernel as written runs and leaves its arguments alone. -/
theorem frame_kernel : quiescent_Kernel := fun m ρ _ => Cert.Kernel.Gen.frame m ρ

/-- The idealized kernel runs and leaves its arguments alone. -/
theorem frame_ideal : quiescent_KernelIdeal := fun m ρ _ => Cert.KernelIdeal.Gen.frame m ρ

/-- The same under the precondition. -/
theorem frame_ideal_pre : quiescent_KernelIdeal_pre_buckets_in_table := fun m ρ _ => Cert.KernelIdeal.Gen.frame m ρ

/-- The reference runs and leaves its arguments alone. -/
theorem frame_reference : quiescent_ReferenceIdeal := fun m g _ =>
  (θ_run _ _ _).mono (fun r h => ⟨fun c => (h c).2, sem_eq_zero_of_no_sems (by decide) r.2⟩) (Cert.ReferenceIdeal.Value.run m g)

/-- The same under the precondition. -/
theorem frame_reference_pre : quiescent_ReferenceIdeal_pre_buckets_in_table := fun m g _ => frame_reference m g trivial

/-- The precondition read back: every fraction's bucket lies inside the table. -/
theorem in_table (m : (ℓ : Loc Cert.KernelIdeal.nD Cert.KernelIdeal.τ Cert.KernelIdeal.sig) → Buf (Elt Ideal) ℓ)
    (h : Pre_KernelIdeal_buckets_in_table m) (c : Dev Cert.KernelIdeal.nD) (i : Cert.KernelIdeal.S8192x64x2.Idx) :
    (Cert.Bucket.bucket (m ((c.tc : Thread Cert.KernelIdeal.nD Cert.KernelIdeal.τ).loc Cert.KernelIdeal.main_arg0) i)).toNat < 12 := by
  haveI : Subsingleton Cert.Pre_buckets_in_table.S_.Idx := ⟨fun a b => funext fun k => k.elim0⟩
  exact Cert.Bucket.bucket_lt (Cert.Bucket.lt_of_cmp
    (Host.reduce_andi_all _ _ _ _ (fun k => k.elim0) (congrFun (h c) (fun k => k.elim0)) i))

/-- From equal arguments, under the precondition, the idealized kernel and the reference leave equal outputs: both leave
    the result of `Cert.Whole` at the arguments. -/
theorem equal : algebraic_KernelIdeal_ReferenceIdeal_pre_buckets_in_table := by
  intro m g m' g' hpre hagree
  refine ⟨fun c => Cert.KernelIdeal.Array.ofArgs m c, ?_, ?_⟩
  · exact (θ_run _ _ _).mono (fun r h c => ⟨(h c).1.trans (Cert.KernelIdeal.Array.final m c), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2, h3, h4, h5, h6, h7, h8, h9, h10, h11, h12, h13⟩ := hagree c
    rw [Cert.ReferenceIdeal.Read.val_main_v69_eq, h0, h1, h2, h3, h4, h5, h6, h7, h8, h9, h10, h11, h12, h13]
    exact Cert.ReferenceIdeal.RefValue.reference_eq _ _ _ _ _ _ _ _ _ _ _ _ _ _ (in_table m hpre c)

/-- Everything claimed. -/
theorem claim : Cert.Claim := ⟨Cert.Kernel.Gen.facts, Cert.KernelIdeal.Gen.facts, Cert.ReferenceIdeal.Gen.facts,
  Cert.Pre_buckets_in_table.Gen.facts, frame_kernel, frame_ideal, frame_ideal_pre, frame_reference, frame_reference_pre, trivial, equal⟩

end Cert.Proof

end
